-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x96x224x224 : Shape := ⟨4, ![2, 96, 224, 224]⟩
abbrev S192x96x3x3 : Shape := ⟨4, ![192, 96, 3, 3]⟩
abbrev S192 : Shape := ⟨1, ![192]⟩
abbrev S_ : Shape := ⟨0, ![]⟩
abbrev S2x96x1x224 : Shape := ⟨4, ![2, 96, 1, 224]⟩
abbrev S2x96x3x224 : Shape := ⟨4, ![2, 96, 3, 224]⟩
abbrev S2x96x4x224 : Shape := ⟨4, ![2, 96, 4, 224]⟩
abbrev S2x4x96x224 : Shape := ⟨4, ![2, 4, 96, 224]⟩
abbrev S192x3x3x96 : Shape := ⟨4, ![192, 3, 3, 96]⟩
abbrev S192x864 : Shape := ⟨2, ![192, 864]⟩
abbrev S192x1 : Shape := ⟨2, ![192, 1]⟩
abbrev S2x192x224x224 : Shape := ⟨4, ![2, 192, 224, 224]⟩
abbrev S1x96x56x224 : Shape := ⟨4, ![1, 96, 56, 224]⟩
abbrev S1x1x96x224 : Shape := ⟨4, ![1, 1, 96, 224]⟩
abbrev S1x192x56x224 : Shape := ⟨4, ![1, 192, 56, 224]⟩
abbrev S58x3x96x224 : Shape := ⟨4, ![58, 3, 96, 224]⟩
abbrev S58x96x1 : Shape := ⟨3, ![58, 96, 1]⟩
abbrev S58x1x96x1 : Shape := ⟨4, ![58, 1, 96, 1]⟩
abbrev S96x56x224 : Shape := ⟨3, ![96, 56, 224]⟩
abbrev S56x96x224 : Shape := ⟨3, ![56, 96, 224]⟩
abbrev S96x224 : Shape := ⟨2, ![96, 224]⟩
abbrev S96x223 : Shape := ⟨2, ![96, 223]⟩
abbrev S1x1x96x223 : Shape := ⟨4, ![1, 1, 96, 223]⟩
abbrev S56x96x223 : Shape := ⟨3, ![56, 96, 223]⟩
abbrev S56x1x96x223 : Shape := ⟨4, ![56, 1, 96, 223]⟩
abbrev S56x1x96x224 : Shape := ⟨4, ![56, 1, 96, 224]⟩
abbrev S192x224 : Shape := ⟨2, ![192, 224]⟩
abbrev S3x3x96x224 : Shape := ⟨4, ![3, 3, 96, 224]⟩
abbrev S864x224 : Shape := ⟨2, ![864, 224]⟩
abbrev S1x192x1x224 : Shape := ⟨4, ![1, 192, 1, 224]⟩

abbrev nBuf : Space → Nat
  | .hbm => 16
  | .vmem => 11
  | .smem => 0
  | _ => 0

abbrev bufTy : (tb : Table) → Fin (tcTables nBuf tb) → BufTy
  | .hbm, ⟨0, _⟩ => ⟨S2x96x224x224, .f32⟩
  | .hbm, ⟨1, _⟩ => ⟨S192x96x3x3, .f32⟩
  | .hbm, ⟨2, _⟩ => ⟨S192, .f32⟩
  | .hbm, ⟨3, _⟩ => ⟨S_, .f32⟩
  | .hbm, ⟨4, _⟩ => ⟨S2x96x1x224, .f32⟩
  | .hbm, ⟨5, _⟩ => ⟨S2x96x3x224, .f32⟩
  | .hbm, ⟨6, _⟩ => ⟨S2x96x4x224, .f32⟩
  | .hbm, ⟨7, _⟩ => ⟨S2x96x3x224, .f32⟩
  | .hbm, ⟨8, _⟩ => ⟨S2x96x4x224, .f32⟩
  | .hbm, ⟨9, _⟩ => ⟨S2x4x96x224, .f32⟩
  | .hbm, ⟨10, _⟩ => ⟨S2x4x96x224, .f32⟩
  | .hbm, ⟨11, _⟩ => ⟨S192x3x3x96, .f32⟩
  | .hbm, ⟨12, _⟩ => ⟨S192x864, .f32⟩
  | .hbm, ⟨13, _⟩ => ⟨S192x864, .bf16⟩
  | .hbm, ⟨14, _⟩ => ⟨S192x1, .f32⟩
  | .hbm, ⟨15, _⟩ => ⟨S2x192x224x224, .f32⟩
  | .local _ .vmem, ⟨0, _⟩ => ⟨S1x96x56x224, .f32⟩
  | .local _ .vmem, ⟨1, _⟩ => ⟨S1x96x56x224, .f32⟩
  | .local _ .vmem, ⟨2, _⟩ => ⟨S1x1x96x224, .f32⟩
  | .local _ .vmem, ⟨3, _⟩ => ⟨S1x1x96x224, .f32⟩
  | .local _ .vmem, ⟨4, _⟩ => ⟨S1x1x96x224, .f32⟩
  | .local _ .vmem, ⟨5, _⟩ => ⟨S1x1x96x224, .f32⟩
  | .local _ .vmem, ⟨6, _⟩ => ⟨S192x864, .bf16⟩
  | .local _ .vmem, ⟨7, _⟩ => ⟨S192x1, .f32⟩
  | .local _ .vmem, ⟨8, _⟩ => ⟨S1x192x56x224, .f32⟩
  | .local _ .vmem, ⟨9, _⟩ => ⟨S1x192x56x224, .f32⟩
  | .local _ .vmem, ⟨10, _⟩ => ⟨S58x3x96x224, .bf16⟩
  | _, _ => ⟨S2x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x96x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x96x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S192x864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x192x56x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x96x224x224 : Shape := ⟨4, ![2, 96, 224, 224]⟩
abbrev S192x96x3x3 : Shape := ⟨4, ![192, 96, 3, 3]⟩
abbrev S192 : Shape := ⟨1, ![192]⟩
abbrev S_ : Shape := ⟨0, ![]⟩
abbrev S2x96x226x226 : Shape := ⟨4, ![2, 96, 226, 226]⟩
abbrev S2x192x224x224 : Shape := ⟨4, ![2, 192, 224, 224]⟩
abbrev S192x96x1x1 : Shape := ⟨4, ![192, 96, 1, 1]⟩
abbrev S192x96 : Shape := ⟨2, ![192, 96]⟩
abbrev S2x224x224x192 : Shape := ⟨4, ![2, 224, 224, 192]⟩
abbrev S1x192x1x1 : Shape := ⟨4, ![1, 192, 1, 1]⟩

abbrev nBuf : Space → Nat
  | .hbm => 65
  | .vmem => 0
  | .smem => 0
  | _ => 0

abbrev bufTy : (tb : Table) → Fin (tcTables nBuf tb) → BufTy
  | .hbm, ⟨0, _⟩ => ⟨S2x96x224x224, .f32⟩
  | .hbm, ⟨1, _⟩ => ⟨S192x96x3x3, .f32⟩
  | .hbm, ⟨2, _⟩ => ⟨S192, .f32⟩
  | .hbm, ⟨3, _⟩ => ⟨S_, .i32⟩
  | .hbm, ⟨4, _⟩ => ⟨S_, .f32⟩
  | .hbm, ⟨5, _⟩ => ⟨S2x96x226x226, .f32⟩
  | .hbm, ⟨6, _⟩ => ⟨S_, .f32⟩
  | .hbm, ⟨7, _⟩ => ⟨S2x192x224x224, .f32⟩
  | .hbm, ⟨8, _⟩ => ⟨S192x96x1x1, .f32⟩
  | .hbm, ⟨9, _⟩ => ⟨S192x96, .f32⟩
  | .hbm, ⟨10, _⟩ => ⟨S2x96x224x224, .f32⟩
  | .hbm, ⟨11, _⟩ => ⟨S2x224x224x192, .f32⟩
  | .hbm, ⟨12, _⟩ => ⟨S2x192x224x224, .f32⟩
  | .hbm, ⟨13, _⟩ => ⟨S2x192x224x224, .f32⟩
  | .hbm, ⟨14, _⟩ => ⟨S192x96x1x1, .f32⟩
  | .hbm, ⟨15, _⟩ => ⟨S192x96, .f32⟩
  | .hbm, ⟨16, _⟩ => ⟨S2x96x224x224, .f32⟩
  | .hbm, ⟨17, _⟩ => ⟨S2x224x224x192, .f32⟩
  | .hbm, ⟨18, _⟩ => ⟨S2x192x224x224, .f32⟩
  | .hbm, ⟨19, _⟩ => ⟨S2x192x224x224, .f32⟩
  | .hbm, ⟨20, _⟩ => ⟨S192x96x1x1, .f32⟩
  | .hbm, ⟨21, _⟩ => ⟨S192x96, .f32⟩
  | .hbm, ⟨22, _⟩ => ⟨S2x96x224x224, .f32⟩
  | .hbm, ⟨23, _⟩ => ⟨S2x224x224x192, .f32⟩
  | .hbm, ⟨24, _⟩ => ⟨S2x192x224x224, .f32⟩
  | .hbm, ⟨25, _⟩ => ⟨S2x192x224x224, .f32⟩
  | .hbm, ⟨26, _⟩ => ⟨S192x96x1x1, .f32⟩
  | .hbm, ⟨27, _⟩ => ⟨S192x96, .f32⟩
  | .hbm, ⟨28, _⟩ => ⟨S2x96x224x224, .f32⟩
  | .hbm, ⟨29, _⟩ => ⟨S2x224x224x192, .f32⟩
  | .hbm, ⟨30, _⟩ => ⟨S2x192x224x224, .f32⟩
  | .hbm, ⟨31, _⟩ => ⟨S2x192x224x224, .f32⟩
  | .hbm, ⟨32, _⟩ => ⟨S192x96x1x1, .f32⟩
  | .hbm, ⟨33, _⟩ => ⟨S192x96, .f32⟩
  | .hbm, ⟨34, _⟩ => ⟨S2x96x224x224, .f32⟩
  | .hbm, ⟨35, _⟩ => ⟨S2x224x224x192, .f32⟩
  | .hbm, ⟨36, _⟩ => ⟨S2x192x224x224, .f32⟩
  | .hbm, ⟨37, _⟩ => ⟨S2x192x224x224, .f32⟩
  | .hbm, ⟨38, _⟩ => ⟨S192x96x1x1, .f32⟩
  | .hbm, ⟨39, _⟩ => ⟨S192x96, .f32⟩
  | .hbm, ⟨40, _⟩ => ⟨S2x96x224x224, .f32⟩
  | .hbm, ⟨41, _⟩ => ⟨S2x224x224x192, .f32⟩
  | .hbm, ⟨42, _⟩ => ⟨S2x192x224x224, .f32⟩
  | .hbm, ⟨43, _⟩ => ⟨S2x192x224x224, .f32⟩
  | .hbm, ⟨44, _⟩ => ⟨S192x96x1x1, .f32⟩
  | .hbm, ⟨45, _⟩ => ⟨S192x96, .f32⟩
  | .hbm, ⟨46, _⟩ => ⟨S2x96x224x224, .f32⟩
  | .hbm, ⟨47, _⟩ => ⟨S2x224x224x192, .f32⟩
  | .hbm, ⟨48, _⟩ => ⟨S2x192x224x224, .f32⟩
  | .hbm, ⟨49, _⟩ => ⟨S2x192x224x224, .f32⟩
  | .hbm, ⟨50, _⟩ => ⟨S192x96x1x1, .f32⟩
  | .hbm, ⟨51, _⟩ => ⟨S192x96, .f32⟩
  | .hbm, ⟨52, _⟩ => ⟨S2x96x224x224, .f32⟩
  | .hbm, ⟨53, _⟩ => ⟨S2x224x224x192, .f32⟩
  | .hbm, ⟨54, _⟩ => ⟨S2x192x224x224, .f32⟩
  | .hbm, ⟨55, _⟩ => ⟨S2x192x224x224, .f32⟩
  | .hbm, ⟨56, _⟩ => ⟨S192x96x1x1, .f32⟩
  | .hbm, ⟨57, _⟩ => ⟨S192x96, .f32⟩
  | .hbm, ⟨58, _⟩ => ⟨S2x96x224x224, .f32⟩
  | .hbm, ⟨59, _⟩ => ⟨S2x224x224x192, .f32⟩
  | .hbm, ⟨60, _⟩ => ⟨S2x192x224x224, .f32⟩
  | .hbm, ⟨61, _⟩ => ⟨S2x192x224x224, .f32⟩
  | .hbm, ⟨62, _⟩ => ⟨S1x192x1x1, .f32⟩
  | .hbm, ⟨63, _⟩ => ⟨S2x192x224x224, .f32⟩
  | .hbm, ⟨64, _⟩ => ⟨S2x192x224x224, .f32⟩
  | _, _ => ⟨S2x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩

abbrev nD : Nat := 1
abbrev τ : Topo := Topo.v7x

variable {F : FTy → Type} [FloatOps F]
-- ==== Proof.Spec.lean ====
/-
  The convolution that both programs compute, as one function of whole arrays over the extended reals, and the one
  equation of sums that the two ways of contracting it need. Nothing here names a program.
-/
module

public import Idealize.ShloMosaic.Lib.Pointwise

@[expose] public section

set_option maxRecDepth 16384

noncomputable section

namespace Cert.Conv

open Idealize.ShloMosaic

/-- The image `x` inside a border of zeros one element wide: row `p` and column `q` count from the border, so the
    image's element (0, 0) stands at (1, 1). -/
def padded (x : (⟨4, ![2, 96, 224, 224]⟩ : Shape).Idx → EReal) (n : Fin 2) (c : Fin 96) (p q : ℕ) : EReal :=
  if h : (1 ≤ p ∧ p < 225) ∧ 1 ≤ q ∧ q < 225 then x (ix4 n c ⟨p - 1, by omega⟩ ⟨q - 1, by omega⟩) else 0

/-- Inside the border the padded image is the image. -/
theorem padded_inner (x : (⟨4, ![2, 96, 224, 224]⟩ : Shape).Idx → EReal) (n : Fin 2) (c : Fin 96) (p q : Fin 224)
    (p' q' : ℕ) (hp : p' = p.val + 1) (hq : q' = q.val + 1) : padded x n c p' q' = x (ix4 n c p q) := by
  subst hp hq
  have h1 := p.isLt
  have h2 := q.isLt
  unfold padded
  rw [dif_pos (by omega)]
  rfl

/-- On the border it is zero. -/
theorem padded_border (x : (⟨4, ![2, 96, 224, 224]⟩ : Shape).Idx → EReal) (n : Fin 2) (c : Fin 96) (p q : ℕ)
    (h : p = 0 ∨ 225 ≤ p ∨ q = 0 ∨ 225 ≤ q) : padded x n c p q = 0 := by
  unfold padded
  rw [dif_neg (by omega)]

/-- One result element: the 3 × 3 window of the padded image at `(r, q)`, over all 96 channels, against output channel
    `o`'s weights, plus that channel's bias. -/
def convAt (x : (⟨4, ![2, 96, 224, 224]⟩ : Shape).Idx → EReal) (w : (⟨4, ![192, 96, 3, 3]⟩ : Shape).Idx → EReal)
    (b : (⟨1, ![192]⟩ : Shape).Idx → EReal) (n : Fin 2) (o : Fin 192) (r q : ℕ) : EReal :=
  (∑ kh : Fin 3, ∑ kw : Fin 3, ∑ c : Fin 96, w (ix4 o c kh kw) * padded x n c (r + kh.val) (q + kw.val)) + b (ix1 o)

/-- The whole result array. -/
def conv (x : (⟨4, ![2, 96, 224, 224]⟩ : Shape).Idx → EReal) (w : (⟨4, ![192, 96, 3, 3]⟩ : Shape).Idx → EReal)
    (b : (⟨1, ![192]⟩ : Shape).Idx → EReal) : (⟨4, ![2, 192, 224, 224]⟩ : Shape).Idx → EReal :=
  fun i => convAt x w b (i 0) (i 1) (i 2).val (i 3).val

/-- A sum over 864 = 3 · 3 · 96 positions, the window's row outermost and the channel innermost, is the sum over
    window row, window column and channel. -/
theorem sum_window (f : Fin 864 → EReal) (g : Fin 3 → Fin 3 → Fin 96 → EReal)
    (h : ∀ (a b : Fin 3) (c : Fin 96) (hk : (a.val * 3 + b.val) * 96 + c.val < 864),
      f ⟨(a.val * 3 + b.val) * 96 + c.val, hk⟩ = g a b c) :
    ∑ k : Fin 864, f k = ∑ a, ∑ b, ∑ c, g a b c := by
  have e1 : ∑ k : Fin 864, f k = ∑ p : Fin 9 × Fin 96, f (finProdFinEquiv p) :=
    (Equiv.sum_comp (finProdFinEquiv (m := 9) (n := 96)) f).symm
  have e2 (F : Fin 9 → EReal) : ∑ k : Fin 9, F k = ∑ p : Fin 3 × Fin 3, F (finProdFinEquiv p) :=
    (Equiv.sum_comp (finProdFinEquiv (m := 3) (n := 3)) F).symm
  rw [e1, Fintype.sum_prod_type, e2, Fintype.sum_prod_type]
  refine Finset.sum_congr rfl fun a _ => Finset.sum_congr rfl fun b _ => Finset.sum_congr rfl fun c _ => ?_
  have ha := a.isLt
  have hb := b.isLt
  have hc := c.isLt
  rw [← h a b c (by omega)]
  congr 1
  apply Fin.ext
  show c.val + 96 * (b.val + 3 * a.val) = (a.val * 3 + b.val) * 96 + c.val
  omega

end Cert.Conv

end
-- ==== Proof.Scratchpad.lean ====
/-
  What one grid point's scratch buffer holds after its eleven stores: the band of rows that the point's output rows
  read — the row above, the block's 56 rows, the row below —, three times, shifted by the three window columns, with a
  zero column where the shift leaves the image.
-/
module

public import proofs.«01_k».proof.Proof.Spec
public import proofs.«01_k».proof.Proof.Gen.KernelIdeal.Value

@[expose] public section

set_option maxRecDepth 16384

noncomputable section

namespace Cert.KernelIdeal.ConvValue

open Cert.KernelIdeal Cert.KernelIdeal.Gen Idealize.ShloMosaic Idealize.ShloMosaic.TcCoe Idealize.SL.Sem

/-- The band of 58 rows that a point's blocks make up, inside one border column of zeros at each side: row 0 is the row
    above (`x1`), rows 1 to 56 are the block (`x0`), row 57 is the row below (`x2`); column `q` counts from the border. -/
def band (x0 : Vec Ideal S1x96x56x224 .f32) (x1 x2 : Vec Ideal S1x1x96x224 .f32) (p : ℕ) (c : Fin 96) (q : ℕ) : EReal :=
  if hq : 1 ≤ q ∧ q < 225 then
    if hp : 1 ≤ p ∧ p < 57 then x0 (ix4 (0 : Fin 1) c ⟨p - 1, by omega⟩ ⟨q - 1, by omega⟩)
    else if p = 0 then x1 (ix4 (0 : Fin 1) (0 : Fin 1) c ⟨q - 1, by omega⟩)
    else x2 (ix4 (0 : Fin 1) (0 : Fin 1) c ⟨q - 1, by omega⟩)
  else 0

variable (x0 : Vec Ideal S1x96x56x224 .f32) (x1 x2 : Vec Ideal S1x1x96x224 .f32)

/-- Rows 1 to 56 of the band are the block's. -/
theorem band_mid (p : Fin 56) (c : Fin 96) (q : Fin 224) (p' q' : ℕ) (hp : p' = p.val + 1) (hq : q' = q.val + 1) :
    band x0 x1 x2 p' c q' = x0 (ix4 (0 : Fin 1) c p q) := by
  subst hp hq
  have h1 := p.isLt
  have h2 := q.isLt
  unfold band
  rw [dif_pos (by omega), dif_pos (by omega)]
  rfl

/-- Row 0 of the band is the row above. -/
theorem band_top (c : Fin 96) (q : Fin 224) (p' q' : ℕ) (hp : p' = 0) (hq : q' = q.val + 1) :
    band x0 x1 x2 p' c q' = x1 (ix4 (0 : Fin 1) (0 : Fin 1) c q) := by
  subst hp hq
  have h2 := q.isLt
  unfold band
  rw [dif_pos (by omega), dif_neg (by omega), if_pos rfl]
  rfl

/-- Row 57 of the band is the row below. -/
theorem band_bot (c : Fin 96) (q : Fin 224) (p' q' : ℕ) (hp : p' = 57) (hq : q' = q.val + 1) :
    band x0 x1 x2 p' c q' = x2 (ix4 (0 : Fin 1) (0 : Fin 1) c q) := by
  subst hp hq
  have h2 := q.isLt
  unfold band
  rw [dif_pos (by omega), dif_neg (by omega), if_neg (by omega)]
  rfl

/-- The border columns are zero. -/
theorem band_border (p : ℕ) (c : Fin 96) (q : ℕ) (hq : q = 0 ∨ 225 ≤ q) : band x0 x1 x2 p c q = 0 := by
  unfold band
  rw [dif_neg (by omega)]

/-- The scratch buffer's contents: band row, window column, channel, image column. -/
def scr : S58x3x96x224.Idx → EReal := fun i => band x0 x1 x2 (i 0).val (i 2) ((i 3).val + (i 1).val)

/-- The scratch contents at an index of the block's rows. -/
theorem scr_mid {i : S58x3x96x224.Idx} (p : Fin 56) (c : Fin 96) (q : Fin 224) (h0 : (i 0).val = p.val + 1)
    (h2 : (i 2).val = c.val) (h3 : (i 3).val + (i 1).val = q.val + 1) :
    x0 (ix4 (0 : Fin 1) c p q) = scr x0 x1 x2 i := by
  have e : i 2 = c := Fin.ext h2
  unfold scr
  rw [e, band_mid x0 x1 x2 p c q _ _ h0 h3]

/-- The scratch contents at an index of the row above. -/
theorem scr_top {i : S58x3x96x224.Idx} (c : Fin 96) (q : Fin 224) (h0 : (i 0).val = 0)
    (h2 : (i 2).val = c.val) (h3 : (i 3).val + (i 1).val = q.val + 1) :
    x1 (ix4 (0 : Fin 1) (0 : Fin 1) c q) = scr x0 x1 x2 i := by
  have e : i 2 = c := Fin.ext h2
  unfold scr
  rw [e, band_top x0 x1 x2 c q _ _ h0 h3]

/-- The scratch contents at an index of the row below. -/
theorem scr_bot {i : S58x3x96x224.Idx} (c : Fin 96) (q : Fin 224) (h0 : (i 0).val = 57)
    (h2 : (i 2).val = c.val) (h3 : (i 3).val + (i 1).val = q.val + 1) :
    x2 (ix4 (0 : Fin 1) (0 : Fin 1) c q) = scr x0 x1 x2 i := by
  have e : i 2 = c := Fin.ext h2
  unfold scr
  rw [e, band_bot x0 x1 x2 c q _ _ h0 h3]

/-- The scratch contents where the shift leaves the image. -/
theorem scr_border {i : S58x3x96x224.Idx} (h3 : (i 3).val + (i 1).val = 0 ∨ 225 ≤ (i 3).val + (i 1).val) :
    0 = scr x0 x1 x2 i := by
  unfold scr
  exact (band_border x0 x1 x2 _ _ _ h3).symm

/-- The scratch contents at an index whose row, channel and border column are known. -/
theorem scr_at {i : S58x3x96x224.Idx} (p : ℕ) (c : Fin 96) (q : ℕ) (h0 : (i 0).val = p) (h2 : (i 2).val = c.val)
    (h3 : (i 3).val + (i 1).val = q) : scr x0 x1 x2 i = band x0 x1 x2 p c q := by
  subst h0 h3
  exact congrArg (fun d => band x0 x1 x2 _ d _) (Fin.ext h2)

/-- A coordinate of a box's index, placed in the buffer: the box's offset plus the coordinate. -/
theorem emb_val {s : Shape} {off size : Fin s.rank → ℕ} {inb} (j : (Rect.unit off size inb).shape.Idx) (a : Fin s.rank) :
    ((Rect.unit off size inb).emb j a).val = off a + (j a).val := by
  rw [Rect.emb_apply]
  show off a + 1 * (j a).val = _
  rw [Nat.one_mul]

variable (c : Dev nD) (arg2 : Memref sig .tc .vmem S1x96x56x224 .f32) (harg2 : arg2.IsWhole)
  (arg3 : Memref sig .tc .vmem S1x1x96x224 .f32) (harg3 : arg3.IsWhole)
  (arg4 : Memref sig .tc .vmem S1x1x96x224 .f32) (harg4 : arg4.IsWhole)

/-- A whole block loaded from its staging buffer is the block. -/
theorem load_block : View.readAt (Elt Ideal) arg2.view
    (Rect.unit ![0, 0, 0, 0] S1x96x56x224.size inb_S1x96x56x224_S1x96x56x224_0_0_0_0).toLoadRect (harg2.unread x0) = x0 := by
  rw [View.readAt_eq_ld, Memref.IsWhole.read_unread]
  funext j
  idx_vars j
  pointwise
  fin_cases j0
  rfl

/-- A halo row loaded from its staging buffer is the row. -/
theorem load_row : View.readAt (Elt Ideal) arg3.view
    (Rect.unit ![0, 0, 0, 0] S1x1x96x224.size inb_S1x1x96x224_S1x1x96x224_0_0_0_0).toLoadRect (harg3.unread x1) = x1 := by
  rw [View.readAt_eq_ld, Memref.IsWhole.read_unread]
  funext j
  idx_vars j
  pointwise
  fin_cases j0
  fin_cases j1
  rfl

/-- Each of the eleven stores writes the scratch contents' values at the places it covers. -/
theorem pieces_agree : ∀ p ∈ kernelRun0_A.sl.HS0_11 (F := Ideal) c arg2 harg2 arg3 harg3 arg4 harg4 x0 x1 x2,
    ∀ x : p.1.shape.Idx, p.2 x = scr x0 x1 x2 (p.1.emb x) := by
  unfold kernelRun0_A.sl.HS0_11 kernelRun0_A.sl.r kernelRun0_A.sl.r_1 kernelRun0_A.sl.r_2
  rw [load_block, load_row, load_row]
  simp only [List.forall_mem_cons]
  refine ⟨?_, ?_, ?_, ?_, ?_, ?_, ?_, ?_, ?_, ?_, ?_, by simp⟩
  all_goals
    intro y
    idx_vars y
    pointwise [k0_pay5, k0_pay6, k0_pay7, k0_pay8, k0_pay9, k0_pay10, k0_pay11, k0_pay12, k0_pay13, k0_pay14,
      k0_pay15, k0_pay16, k0_pay2, k0_pay3, k0_pay4]
    first | apply scr_mid | apply scr_top | apply scr_bot | apply scr_border
  all_goals
    simp only [emb_val]
    simp
    try omega

/-- The eleven stores cover the scratch buffer. -/
theorem pieces_cover (i : S58x3x96x224.Idx) :
    ∃ p ∈ kernelRun0_A.sl.HS0_11 (F := Ideal) c arg2 harg2 arg3 harg3 arg4 harg4 x0 x1 x2, i ∈ p.1.set := by
  idx_vars i
  unfold kernelRun0_A.sl.HS0_11
  simp only [List.exists_mem_cons_iff, Rect.mem_set_unit, Fin.forall_fin_succ]
  simp
  omega

/-- A box loaded from the scratch buffer after the stores is the scratch contents there. -/
theorem load_scr (arg8 : Memref sig .tc .vmem S58x3x96x224 .bf16) (B : LoadRect S58x3x96x224) :
    arg8.view.readCov (kernelRun0_A.sl.HS0_11 (F := Ideal) c arg2 harg2 arg3 harg3 arg4 harg4 x0 x1 x2) B
      = fun j => scr x0 x1 x2 (B.idx j) := by
  rw [View.readCov_eq_canon']
  funext j
  exact View.canon_apply_of_pieces _ _ (pieces_agree x0 x1 x2 c arg2 harg2 arg3 harg3 arg4 harg4) _
    (pieces_cover x0 x1 x2 c arg2 harg2 arg3 harg3 arg4 harg4 _)

end Cert.KernelIdeal.ConvValue

end
-- ==== Proof.Block.lean ====
/-
  What one grid point computes: its output block is, row by row, the weights contracted with the three band rows the
  scratch buffer holds for that row, plus the bias — the convolution of the band.
-/
module

public import proofs.«01_k».proof.Proof.Scratchpad

@[expose] public section

set_option maxRecDepth 16384

noncomputable section

namespace Cert.KernelIdeal.ConvValue

open Cert.KernelIdeal Cert.KernelIdeal.Gen Idealize.ShloMosaic Idealize.ShloMosaic.TcCoe Idealize.SL.Sem

/-- One output row from the weights, the spread bias and the row's box of the scratch buffer. -/
def rowOut (w : FVec Ideal S192x864 .bf16) (b : FVec Ideal S192x224 .f32) (v : Vec Ideal S3x3x96x224 .bf16) :
    FVec Ideal S1x192x1x224 .f32 :=
  have k : FVec Ideal S864x224 .bf16 := shapeCast S864x224 v shapeCasts_S3x3x96x224_S864x224
  shapeCast S1x192x1x224 (addf b (matmul dot_S192x864_S864x224_S192x224_1_0_0_1_n_n none w k
    (constant S192x224 .f32 0x00000000#32))) shapeCasts_S192x224_S1x192x1x224

/-- An output row at an index: the sum over the 864 rows of the contraction, plus the bias. -/
theorem rowOut_apply (w : FVec Ideal S192x864 .bf16) (b : FVec Ideal S192x224 .f32) (v : Vec Ideal S3x3x96x224 .bf16)
    (z z' : Fin 1) (o : Fin 192) (q : Fin 224) : rowOut w b v (ix4 z o z' q)
      = (∑ kh : Fin 3, ∑ kw : Fin 3, ∑ c : Fin 96,
          w (ix2 o ⟨(kh.val * 3 + kw.val) * 96 + c.val, by omega⟩) * v (ix4 kh kw c q)) + b (ix2 o q) := by
  pointwise [rowOut]
  rw [add_comm]
  congr 1
  refine Conv.sum_window _ _ fun kh kw c hk => ?_
  have h1 := kh.isLt
  have h2 := kw.isLt
  have h3 := c.isLt
  refine congrArg (fun j => w _ * v j) ?_
  congr 1 <;> apply Fin.ext <;> simp only <;> omega

variable (x0 : Vec Ideal S1x96x56x224 .f32) (x1 x2 : Vec Ideal S1x1x96x224 .f32) (x3 : Vec Ideal S192x864 .bf16)
  (x4 : Vec Ideal S192x1 .f32)

/-- The output block: the convolution of the band, at the block's own rows. -/
def block : Vec Ideal S1x192x56x224 .f32 := fun i =>
  (∑ kh : Fin 3, ∑ kw : Fin 3, ∑ c : Fin 96,
    x3 (ix2 (i 1) ⟨(kh.val * 3 + kw.val) * 96 + c.val, by omega⟩)
      * band x0 x1 x2 ((i 2).val + kh.val) c ((i 3).val + kw.val)) + x4 (ix2 (i 1) (0 : Fin 1))

variable (c : Dev nD) (i : grid0.Coords) (arg2 : Memref sig .tc .vmem S1x96x56x224 .f32) (harg2 : arg2.IsWhole)
  (arg3 : Memref sig .tc .vmem S1x1x96x224 .f32) (harg3 : arg3.IsWhole)
  (arg4 : Memref sig .tc .vmem S1x1x96x224 .f32) (harg4 : arg4.IsWhole)
  (arg5 : Memref sig .tc .vmem S192x864 .bf16) (harg5 : arg5.IsWhole)
  (arg6 : Memref sig .tc .vmem S192x1 .f32) (harg6 : arg6.IsWhole)
  (arg7 : Memref sig .tc .vmem S1x192x56x224 .f32) (harg7 : arg7.IsWhole)
  (arg8 : Memref sig .tc .vmem S58x3x96x224 .bf16) (harg8 : arg8.IsWhole)

/-- The weights as loaded are the weights. -/
theorem weights_eq : kernelRun0_A.sl.r_3 (F := Ideal) c arg5 harg5 x3 = x3 := by
  unfold kernelRun0_A.sl.r_3 k0_pay17
  rw [View.readAt_eq_ld, Memref.IsWhole.read_unread]
  funext j
  idx_vars j
  pointwise

/-- The bias as loaded and spread along the row is the bias of the output channel. -/
theorem bias_at (o : Fin 192) (q : Fin 224) :
    kernelRun0_A.sl.r_4 (F := Ideal) c arg6 harg6 x4 (ix2 o q) = x4 (ix2 o (0 : Fin 1)) := by
  unfold kernelRun0_A.sl.r_4 k0_pay18
  rw [View.readAt_eq_ld, Memref.IsWhole.read_unread]
  pointwise

/-- The store of output row `r` writes the block's values there. -/
theorem row_agree (r : ℕ) (hr : r + 1 ≤ 56) (inb : ∀ a, (![0, 0, r, 0] : Fin 4 → ℕ) a + S1x192x1x224.size a ≤ S1x192x56x224.size a)
    (inb' : ∀ a, (![r, 0, 0, 0] : Fin 4 → ℕ) a + S3x3x96x224.size a ≤ S58x3x96x224.size a)
    (y : (Rect.unit (s := S1x192x56x224) ![0, 0, r, 0] S1x192x1x224.size inb).shape.Idx) :
    rowOut (kernelRun0_A.sl.r_3 (F := Ideal) c arg5 harg5 x3) (kernelRun0_A.sl.r_4 (F := Ideal) c arg6 harg6 x4)
      (arg8.view.readCov (kernelRun0_A.sl.HS0_11 (F := Ideal) c arg2 harg2 arg3 harg3 arg4 harg4 x0 x1 x2)
        (Rect.unit (s := S58x3x96x224) ![r, 0, 0, 0] S3x3x96x224.size inb').toLoadRect) y
    = block x0 x1 x2 x3 x4 ((Rect.unit (s := S1x192x56x224) ![0, 0, r, 0] S1x192x1x224.size inb).emb y) := by
  rw [load_scr, weights_eq]
  idx_vars y
  rw [rowOut_apply, bias_at]
  unfold block
  refine congrArg₂ (fun a b : EReal => a + b) (Finset.sum_congr rfl fun kh _ => Finset.sum_congr rfl fun kw _ =>
    Finset.sum_congr rfl fun d _ => congrArg₂ (fun a b : EReal => a * b) ?_ ?_) ?_
  · refine congrArg (fun o => x3 (ix2 o _)) (Fin.ext ?_)
    rw [emb_val]
    exact (Nat.zero_add y1.val).symm
  · refine scr_at x0 x1 x2 _ d _ ?_ ?_ ?_
    · rw [emb_val, LoadRect.idx_apply]
      show r + 1 * kh.val = r + y2.val + kh.val
      omega
    · rw [LoadRect.idx_apply]
      show 0 + 1 * d.val = d.val
      omega
    · rw [emb_val, LoadRect.idx_apply, LoadRect.idx_apply]
      show 0 + 1 * y3.val + (0 + 1 * kw.val) = 0 + y3.val + kw.val
      omega
  · refine congrArg (fun o => x4 (ix2 o _)) (Fin.ext ?_)
    rw [emb_val]
    exact (Nat.zero_add y1.val).symm

/-- A row's box lies in the scratch buffer. -/
theorem box_inb (r : ℕ) (hr : r + 1 ≤ 56) :
    ∀ a, (![r, 0, 0, 0] : Fin 4 → ℕ) a + S3x3x96x224.size a ≤ S58x3x96x224.size a := by
  intro a
  fin_cases a <;> simp
  omega

/-- A list of stores that begins with output row `r`'s agrees with the block when the rest does. -/
theorem cons_agree {L : List (View.Piece (Elt Ideal) S1x192x56x224 .f32)} (r : ℕ)
    {inb : ∀ a, (![0, 0, r, 0] : Fin 4 → ℕ) a + S1x192x1x224.size a ≤ S1x192x56x224.size a}
    {pay : (Rect.unit (s := S1x192x56x224) ![0, 0, r, 0] S1x192x1x224.size inb).shape.Idx → Elt Ideal .f32}
    (hr : r + 1 ≤ 56)
    (hpay : pay = rowOut (kernelRun0_A.sl.r_3 (F := Ideal) c arg5 harg5 x3)
      (kernelRun0_A.sl.r_4 (F := Ideal) c arg6 harg6 x4)
      (arg8.view.readCov (kernelRun0_A.sl.HS0_11 (F := Ideal) c arg2 harg2 arg3 harg3 arg4 harg4 x0 x1 x2)
        (Rect.unit (s := S58x3x96x224) ![r, 0, 0, 0] S3x3x96x224.size (box_inb r hr)).toLoadRect))
    (hL : ∀ p ∈ L, ∀ x : p.1.shape.Idx, p.2 x = block x0 x1 x2 x3 x4 (p.1.emb x)) :
    ∀ p ∈ (⟨Rect.unit (s := S1x192x56x224) ![0, 0, r, 0] S1x192x1x224.size inb, pay⟩
        : View.Piece (Elt Ideal) S1x192x56x224 .f32) :: L,
      ∀ x : p.1.shape.Idx, p.2 x = block x0 x1 x2 x3 x4 (p.1.emb x) := by
  subst hpay
  exact List.forall_mem_cons.mpr ⟨fun x => row_agree x0 x1 x2 x3 x4 c arg2 harg2 arg3 harg3 arg4 harg4 arg5 harg5
    arg6 harg6 arg8 r hr inb _ x, hL⟩

/-- Each of the 56 stores of output rows writes the block's values. -/
theorem rows_agree : ∀ p ∈ (kernelRun0_A (F := Ideal) c i arg2 harg2 arg3 harg3 arg4 harg4 arg5 harg5 arg6 harg6 arg7 harg7
      arg8 harg8 x0 x1 x2 x3 x4).1, ∀ x : p.1.shape.Idx, p.2 x = block x0 x1 x2 x3 x4 (p.1.emb x) := by
  unfold kernelRun0_A
  repeat
    refine cons_agree x0 x1 x2 x3 x4 c arg2 harg2 arg3 harg3 arg4 harg4 arg5 harg5 arg6 harg6 arg8 _ (by decide) rfl ?_
  exact fun p hp => absurd hp List.not_mem_nil

/-- The output block a grid point leaves is `block` of its input blocks. -/
theorem out_eq : out0_A_5 (F := Ideal) c i arg2 harg2 arg3 harg3 arg4 harg4 arg5 harg5 arg6 harg6 arg7 harg7 arg8 harg8
    x0 x1 x2 x3 x4 = block x0 x1 x2 x3 x4 := by
  unfold out0_A_5
  rw [View.read_writes_junk_eq_canon]
  funext y
  exact View.canon_apply_of_pieces _ _ (rows_agree x0 x1 x2 x3 x4 c i arg2 harg2 arg3 harg3 arg4 harg4 arg5 harg5
    arg6 harg6 arg7 harg7 arg8 harg8) y (cover0_A_5 c i arg2 harg2 arg3 harg3 arg4 harg4 arg5 harg5 arg6 harg6 arg7 harg7
      arg8 harg8 x0 x1 x2 x3 x4 y)

end Cert.KernelIdeal.ConvValue

end
-- ==== Proof.Entry.lean ====
/-
  What the arrays the grid reads hold when the grid starts: the rows above and below each block, the weights as a matrix
  and the bias as a column, each read at an index of the arguments.
-/
module

public import proofs.«01_k».proof.Proof.Spec
public import proofs.«01_k».proof.Proof.Gen.KernelIdeal.Value

@[expose] public section

set_option maxRecDepth 16384

noncomputable section

namespace Cert.KernelIdeal.ConvValue

open Cert.KernelIdeal Cert.KernelIdeal.Gen Idealize.ShloMosaic Idealize.ShloMosaic.TcCoe Idealize.SL.Sem

variable (m : (ℓ : Loc nD τ sig) → Buf (Elt Ideal) ℓ) (c : Dev nD)

/-- The image, the weights and the bias: the three arguments on device `c`. -/
abbrev img : FVec Ideal S2x96x224x224 .f32 := m ((c : Thread nD τ).loc main_arg0)
abbrev wgt : FVec Ideal S192x96x3x3 .f32 := m ((c : Thread nD τ).loc main_arg1)
abbrev bia : FVec Ideal S192 .f32 := m ((c : Thread nD τ).loc main_arg2)

/-- The row of zeros. -/
abbrev zrow : FVec Ideal S2x96x1x224 .f32 :=
  broadcastInDim S2x96x1x224 ![] bcast_S_S2x96x1x224 (constant (F := Ideal) S_ .f32 0x00000000#32)

/-- The rows above the blocks: a zero row, then every 56th row from row 55. -/
theorem top_eq : V m c main_v5 = transpose S2x4x96x224 [0, 2, 1, 3] (concatenate S2x96x4x224 2 [⟨S2x96x1x224, zrow⟩,
      ⟨S2x96x3x224, Host.slice S2x96x3x224 ![0, 0, 55, 0] ![1, 1, 56, 1] (img m c)
        slicesBy_S2x96x224x224_S2x96x3x224_0s1_0s1_55s56_0s1⟩]
    concatenates_S2x96x1x224_S2x96x3x224_S2x96x4x224_d2) transposes_S2x96x4x224_S2x4x96x224_0_2_1_3 := by
  unfold V
  after_results

/-- The rows below the blocks: every 56th row from row 56, then a zero row. -/
theorem bot_eq : V m c main_v6 = transpose S2x4x96x224 [0, 2, 1, 3] (concatenate S2x96x4x224 2 [
      ⟨S2x96x3x224, Host.slice S2x96x3x224 ![0, 0, 56, 0] ![1, 1, 56, 1] (img m c)
        slicesBy_S2x96x224x224_S2x96x3x224_0s1_0s1_56s56_0s1⟩, ⟨S2x96x1x224, zrow⟩]
    concatenates_S2x96x3x224_S2x96x1x224_S2x96x4x224_d2) transposes_S2x96x4x224_S2x4x96x224_0_2_1_3 := by
  unfold V
  after_results

/-- The weights as a matrix. -/
theorem wmat_eq : V m c main_v9 = truncf (F := Ideal) .bf16 (shapeCast S192x864 (transpose S192x3x3x96 [0, 2, 3, 1] (wgt m c)
    transposes_S192x96x3x3_S192x3x3x96_0_2_3_1) shapeCasts_S192x3x3x96_S192x864) bitsLt_bf16_f32 := by
  unfold V
  after_results
  rfl

/-- The bias as a column. -/
theorem bcol_eq : V m c main_v10 = shapeCast S192x1 (bia m c) shapeCasts_S192_S192x1 := by
  unfold V
  after_results
  rfl

/-- The row above block `j`, read in the padded image. -/
theorem top_apply (n : Fin 2) (j : Fin 4) (d : Fin 96) (q : Fin 224) :
    V m c main_v5 (ix4 n j d q) = Conv.padded (img m c) n d (56 * j.val) (q.val + 1) := by
  rw [top_eq]
  pointwise
  have hj := j.isLt
  by_cases h : j.val < 1
  · rw [dif_pos h, Conv.padded_border]
    omega
  · rw [dif_neg h]
    exact (Conv.padded_inner _ n d ⟨55 + 56 * (j.val - 1), by omega⟩ q _ _ (by simp only; omega) rfl).symm

/-- The row below block `j`, read in the padded image. -/
theorem bot_apply (n : Fin 2) (j : Fin 4) (d : Fin 96) (q : Fin 224) :
    V m c main_v6 (ix4 n j d q) = Conv.padded (img m c) n d (56 * j.val + 57) (q.val + 1) := by
  rw [bot_eq]
  pointwise
  have hj := j.isLt
  by_cases h : j.val < 3
  · rw [dif_pos h]
    exact (Conv.padded_inner _ n d ⟨56 + 56 * j.val, by omega⟩ q _ _ (by simp only; omega) rfl).symm
  · rw [dif_neg h, Conv.padded_border]
    omega

/-- The weights' matrix at an entry: window row, window column and channel are the column's digits. -/
theorem wmat_apply (o : Fin 192) (kh kw : Fin 3) (d : Fin 96) (h : (kh.val * 3 + kw.val) * 96 + d.val < 864) :
    V m c main_v9 (ix2 o ⟨(kh.val * 3 + kw.val) * 96 + d.val, h⟩) = wgt m c (ix4 o d kh kw) := by
  rw [wmat_eq]
  pointwise

/-- The bias column at an entry. -/
theorem bcol_apply (o : Fin 192) : V m c main_v10 (ix2 o (0 : Fin 1)) = bia m c (ix1 o) := by
  rw [bcol_eq]
  pointwise

end Cert.KernelIdeal.ConvValue

end
-- ==== Proof.Array.lean ====
/-
  What the result array holds after the run: every grid point's block is its block of the convolution, and the blocks
  cover the array.
-/
module

public import proofs.«01_k».proof.Proof.Block
public import proofs.«01_k».proof.Proof.Entry

@[expose] public section

set_option maxRecDepth 16384

noncomputable section

namespace Cert.KernelIdeal.ConvValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The image a grid point works on. -/
def imgOf (t : Fin cfg0.N) : Fin 2 := ⟨t.val / 4, by have h := t.isLt; have e : cfg0.N = 8 := N_0; omega⟩
/-- The band of rows a grid point works on. -/
def bandOf (t : Fin cfg0.N) : Fin 4 := ⟨t.val % 4, by omega⟩

/-- The six windows' block indices at every point. -/
theorem index_at : ∀ t : Fin grid0.N,
    win0_0.index t = ![t.val / 4, 0, t.val % 4, 0] ∧ win0_1.index t = ![t.val / 4, t.val % 4, 0, 0]
    ∧ win0_2.index t = ![t.val / 4, t.val % 4, 0, 0] ∧ win0_3.index t = ![0, 0] ∧ win0_4.index t = ![0, 0]
    ∧ win0_5.index t = ![t.val / 4, 0, t.val % 4, 0] := by
  decide +kernel

/-- The image block of point `t`, read in the image. -/
theorem block0 (t : Fin cfg0.N) (z : Fin 1) (d : Fin 96) (p : Fin 56) (q : Fin 224) :
    iblk m c 0 t (ix4 z d p q) = img m c (ix4 (imgOf t) d ⟨56 * (bandOf t).val + p.val, by have := (bandOf t).isLt; omega⟩ q) := by
  show V m c main_arg0 ((win0_0.rect t).emb (ix4 z d p q)) = _
  rw [V_main_arg0]
  refine congrArg (img m c) (funext fun a => Fin.ext ?_)
  obtain ⟨e, -⟩ := index_at t
  fin_cases a
  · show win0_0.index t 0 * 1 + 1 * z.val = t.val / 4
    rw [e]
    simp
  · show win0_0.index t 1 * 96 + 1 * d.val = d.val
    rw [e]
    simp
  · show win0_0.index t 2 * 56 + 1 * p.val = 56 * (t.val % 4) + p.val
    rw [e]
    simp
    omega
  · show win0_0.index t 3 * 224 + 1 * q.val = q.val
    rw [e]
    simp

/-- The row above point `t`'s block. -/
theorem block1 (t : Fin cfg0.N) (z z' : Fin 1) (d : Fin 96) (q : Fin 224) :
    iblk m c 1 t (ix4 z z' d q) = V m c main_v5 (ix4 (imgOf t) (bandOf t) d q) := by
  show V m c main_v5 ((win0_1.rect t).emb (ix4 z z' d q)) = _
  refine congrArg (V m c main_v5) (funext fun a => Fin.ext ?_)
  obtain ⟨-, e, -⟩ := index_at t
  fin_cases a
  · show win0_1.index t 0 * 1 + 1 * z.val = t.val / 4
    rw [e]
    simp
  · show win0_1.index t 1 * 1 + 1 * z'.val = t.val % 4
    rw [e]
    simp
  · show win0_1.index t 2 * 96 + 1 * d.val = d.val
    rw [e]
    simp
  · show win0_1.index t 3 * 224 + 1 * q.val = q.val
    rw [e]
    simp

/-- The row below point `t`'s block. -/
theorem block2 (t : Fin cfg0.N) (z z' : Fin 1) (d : Fin 96) (q : Fin 224) :
    iblk m c 2 t (ix4 z z' d q) = V m c main_v6 (ix4 (imgOf t) (bandOf t) d q) := by
  show V m c main_v6 ((win0_2.rect t).emb (ix4 z z' d q)) = _
  refine congrArg (V m c main_v6) (funext fun a => Fin.ext ?_)
  obtain ⟨-, -, e, -⟩ := index_at t
  fin_cases a
  · show win0_2.index t 0 * 1 + 1 * z.val = t.val / 4
    rw [e]
    simp
  · show win0_2.index t 1 * 1 + 1 * z'.val = t.val % 4
    rw [e]
    simp
  · show win0_2.index t 2 * 96 + 1 * d.val = d.val
    rw [e]
    simp
  · show win0_2.index t 3 * 224 + 1 * q.val = q.val
    rw [e]
    simp

/-- The weights' block is the whole matrix at every point. -/
theorem block3 (t : Fin cfg0.N) (o : Fin 192) (k : Fin 864) : iblk m c 3 t (ix2 o k) = V m c main_v9 (ix2 o k) := by
  show V m c main_v9 ((win0_3.rect t).emb (ix2 o k)) = _
  refine congrArg (V m c main_v9) (funext fun a => Fin.ext ?_)
  obtain ⟨-, -, -, e, -⟩ := index_at t
  fin_cases a
  · show win0_3.index t 0 * 192 + 1 * o.val = o.val
    rw [e]
    simp
  · show win0_3.index t 1 * 864 + 1 * k.val = k.val
    rw [e]
    simp

/-- The bias's block is the whole column at every point. -/
theorem block4 (t : Fin cfg0.N) (o : Fin 192) : iblk m c 4 t (ix2 o (0 : Fin 1)) = V m c main_v10 (ix2 o (0 : Fin 1)) := by
  show V m c main_v10 ((win0_4.rect t).emb (ix2 o (0 : Fin 1))) = _
  refine congrArg (V m c main_v10) (funext fun a => Fin.ext ?_)
  obtain ⟨-, -, -, -, e, -⟩ := index_at t
  fin_cases a
  · show win0_4.index t 0 * 192 + 1 * o.val = o.val
    rw [e]
    simp
  · show win0_4.index t 1 * 1 + 1 * 0 = 0
    rw [e]
    simp

/-- The band of point `t` is the padded image from row `56 · j` on. -/
theorem band_eq (t : Fin cfg0.N) (p : ℕ) (hp : p < 58) (d : Fin 96) (q : ℕ) (hq : q < 226) :
    band (iblk m c 0 t) (iblk m c 1 t) (iblk m c 2 t) p d q
      = Conv.padded (img m c) (imgOf t) d (56 * (bandOf t).val + p) q := by
  have hb := (bandOf t).isLt
  by_cases h : 1 ≤ q ∧ q < 225
  · obtain ⟨q, rfl⟩ : ∃ r : Fin 224, q = r.val + 1 := ⟨⟨q - 1, by omega⟩, by simp only; omega⟩
    by_cases h0 : p = 0
    · subst h0
      rw [band_top _ _ _ d q _ _ rfl rfl, block1, top_apply]
      rfl
    · by_cases h57 : p = 57
      · subst h57
        rw [band_bot _ _ _ d q _ _ rfl rfl, block2, bot_apply]
      · rw [band_mid _ _ _ ⟨p - 1, by omega⟩ d q _ _ (by simp only; omega) rfl, block0]
        exact (Conv.padded_inner _ _ d _ q _ _ (by simp only; omega) rfl).symm
  · rw [band_border _ _ _ _ _ _ (by omega), Conv.padded_border]
    omega

/-- The convolution of the three arguments. -/
abbrev result : FVec Ideal S2x192x224x224 .f32 := Conv.conv (img m c) (wgt m c) (bia m c)

/-- A place of point `t`'s output block, in the result array. -/
theorem place5 (t : Fin cfg0.N) (z : Fin 1) (o : Fin 192) (p : Fin 56) (q : Fin 224) :
    (win0_5.rect t).emb (ix4 z o p q)
      = ix4 (imgOf t) o ⟨56 * (bandOf t).val + p.val, by have := (bandOf t).isLt; omega⟩ q := by
  refine funext fun a => Fin.ext ?_
  obtain ⟨-, -, -, -, -, e⟩ := index_at t
  fin_cases a
  · show win0_5.index t 0 * 1 + 1 * z.val = t.val / 4
    rw [e]
    simp
  · show win0_5.index t 1 * 192 + 1 * o.val = o.val
    rw [e]
    simp
  · show win0_5.index t 2 * 56 + 1 * p.val = 56 * (t.val % 4) + p.val
    rw [e]
    simp
    omega
  · show win0_5.index t 3 * 224 + 1 * q.val = q.val
    rw [e]
    simp

/-- The block a point computes, at a place, is the convolution there. -/
theorem block_conv (t : Fin cfg0.N) (z : Fin 1) (o : Fin 192) (p : Fin 56) (q : Fin 224) :
    block (iblk m c 0 t) (iblk m c 1 t) (iblk m c 2 t) (iblk m c 3 t) (iblk m c 4 t) (ix4 z o p q)
      = Conv.convAt (img m c) (wgt m c) (bia m c) (imgOf t) o (56 * (bandOf t).val + p.val) q.val := by
  have hp := p.isLt
  have hq := q.isLt
  refine congrArg₂ (fun a b : EReal => a + b) (Finset.sum_congr rfl fun kh _ => Finset.sum_congr rfl fun kw _ =>
    Finset.sum_congr rfl fun d _ => congrArg₂ (fun a b : EReal => a * b) ?_ ?_) ?_
  · exact (block3 m c t o _).trans (wmat_apply m c o kh kw d _)
  · have h1 := kh.isLt
    have h2 := kw.isLt
    refine (band_eq m c t (p.val + kh.val) (by omega) d (q.val + kw.val) (by omega)).trans ?_
    rw [Nat.add_assoc]
  · exact (block4 m c t o).trans (bcol_apply m c o)

/-- What point `t` writes back is its block of the convolution. -/
theorem flushed_eq (t : Fin cfg0.N) :
    (dats m 0 c).flushed 5 t = ((cfg0.win 5).blk t).view.read (Elt Ideal) (result m c) := by
  rw [Value.flushed5_A, out_eq]
  funext y
  idx_vars y
  refine (block_conv m c t y0 y1 y2 y3).trans ?_
  show _ = result m c ((win0_5.rect t).emb (ix4 y0 y1 y2 y3))
  rw [place5]
  rfl

/-- An index of the result array is in point `t`'s block when its image is the point's and its row is in the band. -/
theorem mem_blk (t : Fin cfg0.N) (i : S2x192x224x224.Idx) (h0 : (i 0).val = t.val / 4)
    (h2 : 56 * (t.val % 4) ≤ (i 2).val ∧ (i 2).val < 56 * (t.val % 4) + 56) :
    i ∈ ((cfg0.win 5).blk t).view.set := by
  show i ∈ ((View.whole main_v11).slice (win0_5.rect t)).set
  rw [View.set_slice_whole, Rect.mem_set_unit]
  have h1 : (i 1).val < 192 := (i 1).isLt
  have h3 : (i 3).val < 224 := (i 3).isLt
  obtain ⟨-, -, -, -, -, e⟩ := index_at t
  intro a
  fin_cases a
  · show win0_5.index t 0 * 1 ≤ (i 0).val ∧ (i 0).val < win0_5.index t 0 * 1 + 1
    rw [e]
    simp
    omega
  · show win0_5.index t 1 * 192 ≤ (i 1).val ∧ (i 1).val < win0_5.index t 1 * 192 + 192
    rw [e]
    simp
    omega
  · show win0_5.index t 2 * 56 ≤ (i 2).val ∧ (i 2).val < win0_5.index t 2 * 56 + 56
    rw [e]
    simp
    omega
  · show win0_5.index t 3 * 224 ≤ (i 3).val ∧ (i 3).val < win0_5.index t 3 * 224 + 224
    rw [e]
    simp
    omega

/-- The blocks cover the result array. -/
theorem cover (i : S2x192x224x224.Idx) :
    ∃ t : Fin cfg0.N, (cfg0.win 5).flush t = true ∧ i ∈ ((cfg0.win 5).blk t).view.set := by
  have h0 : (i 0).val < 2 := (i 0).isLt
  have h2 : (i 2).val < 224 := (i 2).isLt
  have hN : cfg0.N = 8 := N_0
  refine ⟨⟨(i 0).val * 4 + (i 2).val / 56, by omega⟩, flush0_5 _, mem_blk _ i ?_ ?_⟩
  · simp only
    omega
  · simp only
    omega

/-- After the run the result array holds the convolution. -/
theorem final : (dats m 0 c).arrAt 5 cfg0.N = result m c :=
  (dats m 0 c).arrAt_eq_of_cover 5 (result m c) (fun t _ => flushed_eq m c t) cover

end Cert.KernelIdeal.ConvValue

end
-- ==== Proof.RefValue.lean ====
/-
  What the reference computes: its run's term, read at an index, is the convolution of `Spec.lean`.
-/
module

public import proofs.«01_k».proof.Proof.Spec
public import proofs.«01_k».proof.Proof.Gen.ReferenceIdeal.Run

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

variable (m : (ℓ : Loc nD τ sig) → Buf (Elt Ideal) ℓ)

/-- The padded image, as the reference builds it, is `Conv.padded` at every index. -/
theorem pad_apply (x : FVec Ideal S2x96x224x224 .f32) (n : Fin 2) (c : Fin 96) (p q : Fin 226) :
    pad S2x96x226x226 ![0, 0, 1, 1] ![0, 0, 1, 1] ![0, 0, 0, 0] x (sitofp (F := Ideal) .f32 (constantI S_ 32 0#32))
      pads_S2x96x224x224_S2x96x226x226_000_000_110_110 h_S_ (ix4 n c p q) = Conv.padded x n c p.val q.val := by
  have h0 : (FloatOps.sitofp (F := Ideal) FTy.f32 (0#32) : EReal) = 0 := by
    show (((0#32 : BitVec 32).toInt : ℝ) : EReal) = 0
    simp
  pointwise [Conv.padded]
  by_cases h : (1 ≤ p.val ∧ p.val < 225) ∧ 1 ≤ q.val ∧ q.val < 225
  · rw [dif_pos (by omega), dif_pos h]
  · rw [dif_neg (by omega), dif_neg h]
    exact h0

/-- One shifted product: position `(kh, kw)` of the window, contracted over the channels. -/
theorem term_apply (x : FVec Ideal S2x96x226x226 .f32) (w : FVec Ideal S192x96x3x3 .f32) (kh kw : Fin 3)
    (h1 h2 h3 h4) (n : Fin 2) (o : Fin 192) (r q : Fin 224) :
    transpose S2x192x224x224 [0, 3, 1, 2] (Host.dotGeneral dot_S2x96x224x224_S192x96_S2x224x224x192_1_1_023_0_n_n none
      (extractStridedSlice S2x96x224x224 ![0, 0, kh.val, kw.val] x h1)
      (shapeCast S192x96 (extractStridedSlice S192x96x1x1 ![0, 0, kh.val, kw.val] w h2) h3)) h4 (ix4 n o r q)
    = ∑ c : Fin 96, w (ix4 o c kh kw) * x (ix4 n c ⟨r.val + kh.val, by omega⟩ ⟨q.val + kw.val, by omega⟩) := by
  pointwise
  refine Finset.sum_congr rfl fun c _ => ?_
  rw [mul_comm]
  congr 3 <;> exact Fin.ext (Nat.add_comm _ _)

/-- The same product over the padded image, the two slices' offsets given as they are written. -/
theorem shifted (x : FVec Ideal S2x96x224x224 .f32) (w : FVec Ideal S192x96x3x3 .f32) (kh kw : Fin 3)
    {f g : Fin 4 → ℕ} (hf : f = ![0, 0, kh.val, kw.val]) (hg : g = ![0, 0, kh.val, kw.val])
    {h1 h2 h3 h4} (n : Fin 2) (o : Fin 192) (r q : Fin 224) :
    transpose S2x192x224x224 [0, 3, 1, 2] (Host.dotGeneral dot_S2x96x224x224_S192x96_S2x224x224x192_1_1_023_0_n_n none
      (extractStridedSlice S2x96x224x224 f
        (pad S2x96x226x226 ![0, 0, 1, 1] ![0, 0, 1, 1] ![0, 0, 0, 0] x
          (sitofp (F := Ideal) .f32 (constantI S_ 32 0#32)) pads_S2x96x224x224_S2x96x226x226_000_000_110_110 h_S_) h1)
      (shapeCast S192x96 (extractStridedSlice S192x96x1x1 g w h2) h3)) h4 (ix4 n o r q)
    = ∑ c : Fin 96, w (ix4 o c kh kw) * Conv.padded x n c (r.val + kh.val) (q.val + kw.val) := by
  subst hf hg
  rw [term_apply]
  exact Finset.sum_congr rfl fun c _ => congrArg _ (pad_apply x n c _ _)

/-- The bias, spread over the result's other axes. -/
theorem bias_apply (b : FVec Ideal S192 .f32) (h1 h2) (n : Fin 2) (o : Fin 192) (r q : Fin 224) :
    broadcastInDim S2x192x224x224 ![0, 1, 2, 3] h1 (broadcastInDim S1x192x1x1 ![1] h2 b) (ix4 n o r q) = b (ix1 o) := by
  pointwise

/-- A sum of arrays, read at an index where both terms are known. -/
theorem add_at {u v : FVec Ideal S2x192x224x224 .f32} {i : S2x192x224x224.Idx} {a b : EReal} (hu : u i = a)
    (hv : v i = b) : addf u v i = a + b := by
  subst hu hv
  rfl

/-- The array of zeros that the sum starts from. -/
theorem zero_apply (i : S2x192x224x224.Idx) : broadcastInDim S2x192x224x224 ![] bcast_S_S2x192x224x224
    (constant (F := Ideal) S_ .f32 0x00000000#32) i = (0 : EReal) := by
  pointwise

/-- The reference's result is the convolution of its arguments. -/
theorem value (c : Dev nD) :
    Value.res_out0 m c = Conv.conv (m ((c.tc : Thread nD τ).loc main_arg0)) (m ((c.tc : Thread nD τ).loc main_arg1))
      (m ((c.tc : Thread nD τ).loc main_arg2)) := by
  funext i
  idx_vars i
  have e (kh kw : Fin 3) : (![0, 0, kh.val, kw.val] : Fin 4 → ℕ) = ![0, 0, kh.val, kw.val] := rfl
  unfold Value.res_out0 Value.res_main_v58
  refine Eq.trans (add_at (add_at (add_at (add_at (add_at (add_at (add_at (add_at (add_at (add_at (zero_apply _)
    (shifted _ _ 0 0 (e 0 0) (e 0 0) i0 i1 i2 i3)) (shifted _ _ 0 1 (e 0 1) (e 0 1) i0 i1 i2 i3))
    (shifted _ _ 0 2 (e 0 2) (e 0 2) i0 i1 i2 i3)) (shifted _ _ 1 0 (e 1 0) (e 1 0) i0 i1 i2 i3))
    (shifted _ _ 1 1 (e 1 1) (e 1 1) i0 i1 i2 i3)) (shifted _ _ 1 2 (e 1 2) (e 1 2) i0 i1 i2 i3))
    (shifted _ _ 2 0 (e 2 0) (e 2 0) i0 i1 i2 i3)) (shifted _ _ 2 1 (e 2 1) (e 2 1) i0 i1 i2 i3))
    (shifted _ _ 2 2 (e 2 2) (e 2 2) i0 i1 i2 i3)) (bias_apply _ _ _ i0 i1 i2 i3)) ?_
  show _ = (∑ kh : Fin 3, ∑ kw : Fin 3, ∑ c' : Fin 96, _) + _
  rw [Fin.sum_univ_three, Fin.sum_univ_three, Fin.sum_univ_three, Fin.sum_univ_three, zero_add]
  simp only [add_assoc]
  rfl

end Cert.ReferenceIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs, leaves its arguments unchanged and ends with every counter at zero. -/
theorem frame_kernel : Cert.quiescent_Kernel := fun m ρ _ => Cert.Kernel.Gen.frame m ρ

/-- The idealized kernel does too. -/
theorem frame_ideal : Cert.quiescent_KernelIdeal := fun m ρ _ => Cert.KernelIdeal.Gen.frame m ρ

/-- And the reference, which declares no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From memories that agree on the image, the weights and the bias, the idealized kernel and the reference end with
    the same result: the convolution of the three. -/
theorem values_equal : Cert.algebraic_KernelIdeal_ReferenceIdeal := by
  intro m ρ m' ρ' _ hagree
  refine ⟨fun c => Cert.KernelIdeal.ConvValue.result m c, ?_, ?_⟩
  · exact (θ_run Cert.KernelIdeal.defs _ _).mono
      (fun _ h c => ⟨(h c).1.trans (Cert.KernelIdeal.ConvValue.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.value m' c).trans ?_
    rw [(hagree c).1, (hagree c).2.1, (hagree c).2.2]

/-- Everything the certificate claims. -/
theorem claim : Cert.Claim := ⟨Cert.Kernel.Gen.facts, Cert.KernelIdeal.Gen.facts, Cert.ReferenceIdeal.Gen.facts,
  frame_kernel, frame_ideal, frame_reference, trivial, values_equal⟩

end Cert.Proof

end
